-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S32x2x1024 Cert.KernelIdeal.S32x1x1024
  ∧ IdealRules.bf16_pair.HalfStatement Cert.KernelIdeal.S32x1024
  ∧ IdealRules.bf16_pair.Statement Cert.KernelIdeal.S32x2x1024 Cert.KernelIdeal.S32x1x1024
  ∧ IdealRules.bf16_pair.Statement Cert.KernelIdeal.S1x2x256 Cert.KernelIdeal.S1x1x256
  ∧ IdealRules.bf16_pair.Statement Cert.KernelIdeal.S2x256 Cert.KernelIdeal.S1x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x8192 : Shape := ⟨3, ![48, 1, 8192]⟩
abbrev S4096x32768 : Shape := ⟨2, ![4096, 32768]⟩
abbrev S64x32768 : Shape := ⟨2, ![64, 32768]⟩
abbrev S48x8192 : Shape := ⟨2, ![48, 8192]⟩
abbrev S48x32768 : Shape := ⟨2, ![48, 32768]⟩
abbrev S4096x1024 : Shape := ⟨2, ![4096, 1024]⟩
abbrev S64x1024 : Shape := ⟨2, ![64, 1024]⟩
abbrev S48x1024 : Shape := ⟨2, ![48, 1024]⟩
abbrev S32x1024 : Shape := ⟨2, ![32, 1024]⟩
abbrev S256x256 : Shape := ⟨2, ![256, 256]⟩
abbrev S48x128 : Shape := ⟨2, ![48, 128]⟩
abbrev S48x256 : Shape := ⟨2, ![48, 256]⟩
abbrev S128x256 : Shape := ⟨2, ![128, 256]⟩
abbrev S1x256 : Shape := ⟨2, ![1, 256]⟩
abbrev S2x256 : Shape := ⟨2, ![2, 256]⟩
abbrev S1x2x256 : Shape := ⟨3, ![1, 2, 256]⟩
abbrev S128x2x256 : Shape := ⟨3, ![128, 2, 256]⟩

abbrev nBuf : Space → Nat
  | .hbm => 5
  | .vmem => 9
  | .smem => 0
  | _ => 0

abbrev bufTy : (tb : Table) → Fin (tcTables nBuf tb) → BufTy
  | .hbm, ⟨0, _⟩ => ⟨S48x1x8192, .bf16⟩
  | .hbm, ⟨1, _⟩ => ⟨S4096x32768, .i8⟩
  | .hbm, ⟨2, _⟩ => ⟨S64x32768, .bf16⟩
  | .hbm, ⟨3, _⟩ => ⟨S48x8192, .bf16⟩
  | .hbm, ⟨4, _⟩ => ⟨S48x32768, .bf16⟩
  | .local _ .vmem, ⟨0, _⟩ => ⟨S48x8192, .bf16⟩
  | .local _ .vmem, ⟨1, _⟩ => ⟨S4096x1024, .i8⟩
  | .local _ .vmem, ⟨2, _⟩ => ⟨S4096x1024, .i8⟩
  | .local _ .vmem, ⟨3, _⟩ => ⟨S64x1024, .bf16⟩
  | .local _ .vmem, ⟨4, _⟩ => ⟨S64x1024, .bf16⟩
  | .local _ .vmem, ⟨5, _⟩ => ⟨S48x1024, .bf16⟩
  | .local _ .vmem, ⟨6, _⟩ => ⟨S48x1024, .bf16⟩
  | .local _ .vmem, ⟨7, _⟩ => ⟨S48x8192, .bf16⟩
  | .local _ .vmem, ⟨8, _⟩ => ⟨S32x1024, .i32⟩
  | _, _ => ⟨S48x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
abbrev S32x2x1024 : Shape := ⟨3, ![32, 2, 1024]⟩
abbrev S32x1x1024 : Shape := ⟨3, ![32, 1, 1024]⟩
abbrev S1x1x256 : Shape := ⟨3, ![1, 1, 256]⟩
  | .local _ .vmem, ⟨8, _⟩ => ⟨S32x2x1024, .bf16⟩
variable {F : FTy → Type} [FloatOps F]
-- ==== ReferenceIdeal.lean ====
abbrev S48x1x8192 : Shape := ⟨3, ![48, 1, 8192]⟩
abbrev S4096x32768 : Shape := ⟨2, ![4096, 32768]⟩
abbrev S64x32768 : Shape := ⟨2, ![64, 32768]⟩
abbrev S2 : Shape := ⟨1, ![2]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S48x1x64x128 : Shape := ⟨4, ![48, 1, 64, 128]⟩
abbrev S48x1x2x32x128 : Shape := ⟨5, ![48, 1, 2, 32, 128]⟩
abbrev S1x32x128x32768 : Shape := ⟨4, ![1, 32, 128, 32768]⟩
abbrev S2x1x1x1 : Shape := ⟨4, ![2, 1, 1, 1]⟩
abbrev S2x32x128x32768 : Shape := ⟨4, ![2, 32, 128, 32768]⟩
abbrev S2x32x1x32768 : Shape := ⟨4, ![2, 32, 1, 32768]⟩
abbrev S48x1x32768 : Shape := ⟨3, ![48, 1, 32768]⟩
abbrev S48x32768 : Shape := ⟨2, ![48, 32768]⟩

abbrev nBuf : Space → Nat
  | .hbm => 58
  | .vmem => 0
  | .smem => 0
  | _ => 0

abbrev bufTy : (tb : Table) → Fin (tcTables nBuf tb) → BufTy
  | .hbm, ⟨0, _⟩ => ⟨S48x1x8192, .bf16⟩
  | .hbm, ⟨1, _⟩ => ⟨S4096x32768, .i8⟩
  | .hbm, ⟨2, _⟩ => ⟨S64x32768, .bf16⟩
  | .hbm, ⟨3, _⟩ => ⟨S2, .i32⟩
  | .hbm, ⟨4, _⟩ => ⟨S_, .f32⟩
  | .hbm, ⟨5, _⟩ => ⟨S1x1, .f32⟩
  | .hbm, ⟨6, _⟩ => ⟨S1x1, .f32⟩
  | .hbm, ⟨7, _⟩ => ⟨S1x2, .f32⟩
  | .hbm, ⟨8, _⟩ => ⟨S1x2, .f32⟩
  | .hbm, ⟨9, _⟩ => ⟨S2x2, .f32⟩
  | .hbm, ⟨10, _⟩ => ⟨S2x2, .f32⟩
  | .hbm, ⟨11, _⟩ => ⟨S2x4, .f32⟩
  | .hbm, ⟨12, _⟩ => ⟨S2x4, .f32⟩
  | .hbm, ⟨13, _⟩ => ⟨S4x4, .f32⟩
  | .hbm, ⟨14, _⟩ => ⟨S4x4, .f32⟩
  | .hbm, ⟨15, _⟩ => ⟨S4x8, .f32⟩
  | .hbm, ⟨16, _⟩ => ⟨S4x8, .f32⟩
  | .hbm, ⟨17, _⟩ => ⟨S8x8, .f32⟩
  | .hbm, ⟨18, _⟩ => ⟨S8x8, .f32⟩
  | .hbm, ⟨19, _⟩ => ⟨S8x16, .f32⟩
  | .hbm, ⟨20, _⟩ => ⟨S8x16, .f32⟩
  | .hbm, ⟨21, _⟩ => ⟨S16x16, .f32⟩
  | .hbm, ⟨22, _⟩ => ⟨S16x16, .f32⟩
  | .hbm, ⟨23, _⟩ => ⟨S16x32, .f32⟩
  | .hbm, ⟨24, _⟩ => ⟨S16x32, .f32⟩
  | .hbm, ⟨25, _⟩ => ⟨S32x32, .f32⟩
  | .hbm, ⟨26, _⟩ => ⟨S32x32, .f32⟩
  | .hbm, ⟨27, _⟩ => ⟨S32x64, .f32⟩
  | .hbm, ⟨28, _⟩ => ⟨S32x64, .f32⟩
  | .hbm, ⟨29, _⟩ => ⟨S64x64, .f32⟩
  | .hbm, ⟨30, _⟩ => ⟨S64x64, .f32⟩
  | .hbm, ⟨31, _⟩ => ⟨S64x128, .f32⟩
  | .hbm, ⟨32, _⟩ => ⟨S64x128, .f32⟩
  | .hbm, ⟨33, _⟩ => ⟨S128x128, .f32⟩
  | .hbm, ⟨34, _⟩ => ⟨S_, .f32⟩
  | .hbm, ⟨35, _⟩ => ⟨S128x128, .f32⟩
  | .hbm, ⟨36, _⟩ => ⟨S128x128, .f32⟩
  | .hbm, ⟨37, _⟩ => ⟨S48x1x8192, .f32⟩
  | .hbm, ⟨38, _⟩ => ⟨S48x1x64x128, .f32⟩
  | .hbm, ⟨39, _⟩ => ⟨S48x1x64x128, .f32⟩
  | .hbm, ⟨40, _⟩ => ⟨S48x1x64x128, .bf16⟩
  | .hbm, ⟨41, _⟩ => ⟨S48x1x2x32x128, .bf16⟩
  | .hbm, ⟨42, _⟩ => ⟨S4096x32768, .i32⟩
  | .hbm, ⟨43, _⟩ => ⟨S1x32x128x32768, .i32⟩
  | .hbm, ⟨44, _⟩ => ⟨S2x1x1x1, .i32⟩
  | .hbm, ⟨45, _⟩ => ⟨S2x32x128x32768, .i32⟩
  | .hbm, ⟨46, _⟩ => ⟨S2x32x128x32768, .i32⟩
  | .hbm, ⟨47, _⟩ => ⟨S2x32x128x32768, .i32⟩
  | .hbm, ⟨48, _⟩ => ⟨S_, .i32⟩
  | .hbm, ⟨49, _⟩ => ⟨S2x32x128x32768, .i32⟩
  | .hbm, ⟨50, _⟩ => ⟨S2x32x128x32768, .i32⟩
  | .hbm, ⟨51, _⟩ => ⟨S2x32x1x32768, .bf16⟩
  | .hbm, ⟨52, _⟩ => ⟨S2x32x128x32768, .bf16⟩
  | .hbm, ⟨53, _⟩ => ⟨S2x32x128x32768, .bf16⟩
  | .hbm, ⟨54, _⟩ => ⟨S2x32x128x32768, .bf16⟩
  | .hbm, ⟨55, _⟩ => ⟨S48x1x32768, .f32⟩
  | .hbm, ⟨56, _⟩ => ⟨S48x1x32768, .bf16⟩
  | .hbm, ⟨57, _⟩ => ⟨S48x32768, .bf16⟩
  | _, _ => ⟨S48x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_call1_v0 : Ref sig .tc := ⟨.hbm, 11, rfl⟩
abbrev main_call1_v1 : Ref sig .tc := ⟨.hbm, 12, rfl⟩
abbrev main_v4 : Ref sig .tc := ⟨.hbm, 13, rfl⟩
abbrev main_v5 : Ref sig .tc := ⟨.hbm, 14, rfl⟩
abbrev main_call2_v0 : Ref sig .tc := ⟨.hbm, 15, rfl⟩
abbrev main_call2_v1 : Ref sig .tc := ⟨.hbm, 16, rfl⟩
abbrev main_v6 : Ref sig .tc := ⟨.hbm, 17, rfl⟩
abbrev main_v7 : Ref sig .tc := ⟨.hbm, 18, rfl⟩
abbrev main_call3_v0 : Ref sig .tc := ⟨.hbm, 19, rfl⟩
abbrev main_call3_v1 : Ref sig .tc := ⟨.hbm, 20, rfl⟩
abbrev main_v8 : Ref sig .tc := ⟨.hbm, 21, rfl⟩
abbrev main_v9 : Ref sig .tc := ⟨.hbm, 22, rfl⟩
abbrev main_call4_v0 : Ref sig .tc := ⟨.hbm, 23, rfl⟩
abbrev main_call4_v1 : Ref sig .tc := ⟨.hbm, 24, rfl⟩
abbrev main_v10 : Ref sig .tc := ⟨.hbm, 25, rfl⟩
abbrev main_v11 : Ref sig .tc := ⟨.hbm, 26, rfl⟩
abbrev main_call5_v0 : Ref sig .tc := ⟨.hbm, 27, rfl⟩
abbrev main_call5_v1 : Ref sig .tc := ⟨.hbm, 28, rfl⟩
abbrev main_v12 : Ref sig .tc := ⟨.hbm, 29, rfl⟩
abbrev main_v13 : Ref sig .tc := ⟨.hbm, 30, rfl⟩
abbrev main_call6_v0 : Ref sig .tc := ⟨.hbm, 31, rfl⟩
abbrev main_call6_v1 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Proof.Claims.lean ====
/-
  The claims about running, and the rewrites between the printed kernel and its idealization.

  Every frame says that a program terminates, leaves its arguments unchanged and ends with every semaphore counter at
  zero. The two kernels' frames are the generated ones; the reference's is read off its generated run.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Bf16PairInverse
public import Idealize.ShloMosaic.Lib.Quiescent

@[expose] public section

noncomputable section

open Idealize.ShloMosaic Idealize.SL.Sem

namespace Cert.Proof

/-- The kernel as printed runs, keeps its arguments and ends quiescent. -/
theorem frame_kernel : Cert.quiescent_Kernel := fun m ρ _ => Cert.Kernel.Gen.frame m ρ

/-- So does its idealization. -/
theorem frame_kernel_ideal : Cert.quiescent_KernelIdeal := fun m ρ _ => Cert.KernelIdeal.Gen.frame m ρ

/-- So does the reference, which declares no semaphore at all. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The rewrites of the ideal pass: the scale scratch held as pairs of rows instead of packed words, the two halves
    packed into it and stored, each word row loaded back, and each word row read as two rows. -/
theorem preserves : Cert.preserves_Kernel_KernelIdeal :=
  open Cert.KernelIdeal IdealRules.bf16_pair in
  ⟨bufferStatement S32x2x1024 S32x1x1024, halfStatement S32x1024, statement S32x2x1024 S32x1x1024,
    statement S1x2x256 S1x1x256, statement S2x256 S1x256⟩

end Cert.Proof

end
-- ==== Proof.Steps.lean ====
/-
  What one grid point of the kernel does, said once for every tile and every step.

  The body is printed unrolled: four column tiles of 32 accumulation steps each, and, at the first point, 32 rotations.
  Here one step, one tile and one rotation are each defined a single time over the blocks they read, and the stores
  the body performs are shown to be these.
-/
module

public import proofs.«01_k».proof.Proof.Gen.KernelIdeal.Value
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.SL.Sem

variable {F : FTy → Type} [FloatOps F]

/-- The 256 rows of signed nibbles of 128 rows of packed codes: row `2k` the low nibbles of row `k`, row `2k + 1` the
    high ones. -/
def codes (w : Vec F S128x256 .i8) : FVec F S256x256 .bf16 := k0_pay49 w

/-- The two rows of scales of a pair, each repeated 128 times, alternating. -/
def scales (s : Vec F S1x2x256 .bf16) : FVec F S256x256 .bf16 :=
  shapeCast S256x256 (broadcastTo S128x2x256 (shapeCast S1x2x256 (k0_pay50 s) shapeCasts_S1x2x256_S1x2x256)
    broadcasts_S1x2x256_S128x2x256) shapeCasts_S128x2x256_S256x256

/-- One accumulation step: the product of a rotated group of activations with the dequantized weights of the group. -/
def step (acc : FVec F S48x256 .f32) (x : Vec F S48x256 .bf16) (w : Vec F S128x256 .i8) (s : Vec F S1x2x256 .bf16) :
    FVec F S48x256 .f32 :=
  addf acc (matmul dot_S48x256_S256x256_S48x256_1_0_0_1_n_n none x (mulf (codes w) (scales s))
    (constant S48x256 .f32 0x00000000#32))

/-- The accumulator after the first `n` steps. -/
def steps (X : Fin 32 → Vec F S48x256 .bf16) (W : Fin 32 → Vec F S128x256 .i8) (S : Fin 32 → Vec F S1x2x256 .bf16) :
    (n : ℕ) → n ≤ 32 → FVec F S48x256 .f32
  | 0, _ => k0_pay48
  | n + 1, h => step (steps X W S n (Nat.le_of_succ_le h)) (X ⟨n, h⟩) (W ⟨n, h⟩) (S ⟨n, h⟩)

/-- What is stored of a tile: its accumulator after all 32 steps, rounded. -/
def tile (X : Fin 32 → Vec F S48x256 .bf16) (W : Fin 32 → Vec F S128x256 .i8) (S : Fin 32 → Vec F S1x2x256 .bf16) :
    FVec F S48x256 .bf16 :=
  truncf .bf16 (steps X W S 32 le_rfl) bitsLt_bf16_f32

/-- One rotation: 128 channels of each half of the input, side by side, times the interleaving sign matrix, scaled. -/
def rotate (lo hi : Vec F S48x128 .bf16) : FVec F S48x256 .bf16 := k0_pay46 (k0_pay2 lo hi)

/-- The 128 rows of packed codes of group `g`, at the columns of tile `n`. -/
theorem inb_w (g : Fin 32) (n : Fin 4) : ∀ a, (![128 * g.val, 256 * n.val] : Fin 2 → ℕ) a + S128x256.size a ≤ S4096x1024.size a := by
  intro a; fin_cases a
  · show 128 * g.val + 128 ≤ 4096; omega
  · show 256 * n.val + 256 ≤ 1024; omega

theorem inb_s (g : Fin 32) (n : Fin 4) : ∀ a, (![g.val, 0, 256 * n.val] : Fin 3 → ℕ) a + S1x2x256.size a ≤ S32x2x1024.size a := by
  intro a; fin_cases a
  · show g.val + 1 ≤ 32; omega
  · show 0 + 2 ≤ 2; omega
  · show 256 * n.val + 256 ≤ 1024; omega

theorem inb_x (g : Fin 32) : ∀ a, (![0, 256 * g.val] : Fin 2 → ℕ) a + S48x256.size a ≤ S48x8192.size a := by
  intro a; fin_cases a
  · show 0 + 48 ≤ 48; omega
  · show 256 * g.val + 256 ≤ 8192; omega

theorem inb_h (h : Fin 2) (g : Fin 32) : ∀ a, (![0, 4096 * h.val + 128 * g.val] : Fin 2 → ℕ) a + S48x128.size a ≤ S48x8192.size a := by
  intro a; fin_cases a
  · show 0 + 48 ≤ 48; omega
  · show 4096 * h.val + 128 * g.val + 128 ≤ 8192; omega

theorem inb_o (n : Fin 4) : ∀ a, (![0, 256 * n.val] : Fin 2 → ℕ) a + S48x256.size a ≤ S48x1024.size a := by
  intro a; fin_cases a
  · show 0 + 48 ≤ 48; omega
  · show 256 * n.val + 256 ≤ 1024; omega

theorem inb_p (h : Fin 2) : ∀ a, (![32 * h.val, 0] : Fin 2 → ℕ) a + S32x1024.size a ≤ S64x1024.size a := by
  intro a; fin_cases a
  · show 32 * h.val + 32 ≤ 64; omega
  · show 0 + 1024 ≤ 1024; omega

/-- The rectangle of the packed codes of group `g` and tile `n`. -/
abbrev rectW (g : Fin 32) (n : Fin 4) : Rect S4096x1024 := Rect.unit ![128 * g.val, 256 * n.val] S128x256.size (inb_w g n)
/-- The rectangle of the scale pair of group `g` and tile `n`. -/
abbrev rectS (g : Fin 32) (n : Fin 4) : Rect S32x2x1024 := Rect.unit ![g.val, 0, 256 * n.val] S1x2x256.size (inb_s g n)
/-- The rectangle of the rotated channels of group `g`. -/
abbrev rectX (g : Fin 32) : Rect S48x8192 := Rect.unit ![0, 256 * g.val] S48x256.size (inb_x g)
/-- The rectangle of the channels of group `g` of half `h`. -/
abbrev rectH (h : Fin 2) (g : Fin 32) : Rect S48x8192 := Rect.unit ![0, 4096 * h.val + 128 * g.val] S48x128.size (inb_h h g)
/-- The rectangle of output tile `n`. -/
abbrev rectO (n : Fin 4) : Rect S48x1024 := Rect.unit ![0, 256 * n.val] S48x256.size (inb_o n)

/-- The rectangle of the scales of half `h`. -/
abbrev rectP (h : Fin 2) : Rect S64x1024 := Rect.unit ![32 * h.val, 0] S32x1024.size (inb_p h)

/-- The first `n` pieces of a family, the last first. -/
def firstPieces {S : Shape} {e : EltTy} {N : ℕ} (P : Fin N → View.Piece (Elt F) S e) : (n : ℕ) → n ≤ N → List (View.Piece (Elt F) S e)
  | 0, _ => []
  | n + 1, h => P ⟨n, h⟩ :: firstPieces P n (Nat.le_of_succ_le h)

/-- Every piece of the list is one of the family. -/
theorem mem_firstPieces {S : Shape} {e : EltTy} {N : ℕ} (P : Fin N → View.Piece (Elt F) S e) (p : View.Piece (Elt F) S e) :
    ∀ (n : ℕ) (h : n ≤ N), p ∈ firstPieces P n h → ∃ k, p = P k
  | 0, _, hp => absurd hp List.not_mem_nil
  | n + 1, h, hp => by
    rcases List.mem_cons.mp hp with rfl | hp
    · exact ⟨_, rfl⟩
    · exact mem_firstPieces P p n _ hp

section

variable (c : Dev nD) (i : grid0.Coords) (arg1 : Memref sig .tc .vmem S48x8192 .bf16) (harg1 : arg1.IsWhole) (arg2 : Memref sig .tc .vmem S4096x1024 .i8) (harg2 : arg2.IsWhole) (arg3 : Memref sig .tc .vmem S64x1024 .bf16) (harg3 : arg3.IsWhole) (arg4 : Memref sig .tc .vmem S48x1024 .bf16) (harg4 : arg4.IsWhole) (arg5 : Memref sig .tc .vmem S48x8192 .bf16) (harg5 : arg5.IsWhole) (arg6 : Memref sig .tc .vmem S32x2x1024 .bf16) (harg6 : arg6.IsWhole)
    (x0 : Vec F S48x8192 .bf16) (x1 : Vec F S4096x1024 .i8) (x2 : Vec F S64x1024 .bf16) (xs0 : Vec F S48x8192 .bf16)

/-- The one store of the scale pairs. -/
def pairPieces : List (View.Piece (Elt F) S32x2x1024 .bf16) :=
  [⟨Rect.unit ![0, 0, 0] S32x2x1024.size inb_S32x2x1024_S32x2x1024_0_0_0,
    k0_pay47 (View.readAt (Elt F) arg3.view (rectP 0).toLoadRect (harg3.unread x2))
      (View.readAt (Elt F) arg3.view (rectP 1).toLoadRect (harg3.unread x2))⟩]

/-- Rotation `g`'s store. -/
def rotPiece (g : Fin 32) : View.Piece (Elt F) S48x8192 .bf16 :=
  ⟨rectX g, rotate (View.readAt (Elt F) arg1.view (rectH 0 g).toLoadRect (harg1.unread x0))
    (View.readAt (Elt F) arg1.view (rectH 1 g).toLoadRect (harg1.unread x0))⟩

/-- Tile `n`'s store, over the rotated groups `X`. -/
def tilePiece (X : Fin 32 → Vec F S48x256 .bf16) (n : Fin 4) : View.Piece (Elt F) S48x1024 .bf16 :=
  ⟨rectO n, tile X (fun g => View.readAt (Elt F) arg2.view (rectW g n).toLoadRect (harg2.unread x1))
    (fun g => arg6.view.readCov (pairPieces arg3 harg3 x2) (rectS g n).toLoadRect)⟩

/-- Every point but the first stores the four tiles, over the rotated activations it finds. -/
theorem pieces_B (hc0 : ¬cond0_0 i) :
    (kernelRun0_B c i arg1 harg1 arg2 harg2 arg3 harg3 arg4 harg4 arg5 harg5 arg6 harg6 hc0 x0 x1 x2 xs0).1 =
      firstPieces (tilePiece arg2 harg2 arg3 harg3 arg6 x1 x2 fun g => View.readAt (Elt F) arg5.view (rectX g).toLoadRect (harg5.unread xs0)) 4 le_rfl := by
  sl_kernel_rfl

/-- The first point stores the 32 rotations … -/
theorem rotated_A (hc0 : cond0_0 i) :
    (kernelRun0_A c i arg1 harg1 arg2 harg2 arg3 harg3 arg4 harg4 arg5 harg5 arg6 harg6 hc0 x0 x1 x2).2.1 =
      firstPieces (rotPiece arg1 harg1 x0) 32 le_rfl := by
  sl_kernel_rfl

/-- … and the four tiles over them. -/
theorem pieces_A (hc0 : cond0_0 i) :
    (kernelRun0_A c i arg1 harg1 arg2 harg2 arg3 harg3 arg4 harg4 arg5 harg5 arg6 harg6 hc0 x0 x1 x2).1 =
      firstPieces (tilePiece arg2 harg2 arg3 harg3 arg6 x1 x2 fun g => arg5.view.readCov (firstPieces (rotPiece arg1 harg1 x0) 32 le_rfl) (rectX g).toLoadRect) 4 le_rfl := by
  sl_kernel_rfl

end

end Cert.Proof

end
-- ==== Proof.Signs.lean ====
/-
  The Hadamard signs and the signed nibbles, as plain integers.

  `had l i j` is the entry of the 2^l × 2^l matrix of signs built by doubling. The kernel takes the same sign from the
  parity of the bits that the two indices share; the two agree at every pair of indices below 128.
-/
module

public import Idealize.ShloMosaic.Lib.Pointwise
public import Idealize.ShloMosaic.PureOps.Ideal
public import Mathlib.Data.EReal.Operations

@[expose] public section

set_option maxRecDepth 16384

noncomputable section

namespace Cert.Proof

open Idealize.ShloMosaic

/-- The sign at row `i` and column `j` of the doubled matrix: the smaller matrix in three quarters, its negative in the
    last. -/
def had : ℕ → ℕ → ℕ → ℤ
  | 0, _, _ => 1
  | l + 1, i, j =>
    if i < 2 ^ l then (if j < 2 ^ l then had l i j else had l i (j - 2 ^ l))
    else (if j < 2 ^ l then had l (i - 2 ^ l) j else - had l (i - 2 ^ l) (j - 2 ^ l))

/-- The sign as an extended real. -/
def sgn (i j : ℕ) : EReal := (((had 7 i j : ℤ) : ℝ) : EReal)

/-- The signed nibble of a packed code: the low four bits for `h = 0`, the high four for `h = 1`. -/
def nibble (h : Fin 2) (v : BitVec 8) : ℤ := ((v <<< (4 * (1 - h.val))).sshiftRight 4).toInt

/-- The low bit of the folded word: the parity of the word's low seven bits. -/
def parity (a : BitVec 32) : BitVec 32 :=
  have b := IntOp.xori a (IntOp.shrsi .vector a 4#32)
  have d := IntOp.xori b (IntOp.shrsi .vector b 2#32)
  IntOp.andi (IntOp.xori d (IntOp.shrsi .vector d 1#32)) 1#32

/-- The sign is `+1` at an even number of shared bits and `-1` at an odd one. -/
theorem had_eq_parity : ∀ j k : Fin 128,
    had 7 j.val k.val = 1 - 2 * (parity (BitVec.ofNat 32 (j.val &&& k.val))).toInt := by
  decide +kernel

/-- Masking an index to its seven low bits takes its remainder, -/
theorem andi_127 : ∀ r : Fin 256, IntOp.andi (BitVec.ofNat 32 r.val) 127#32 = BitVec.ofNat 32 (r.val % 128) := by
  decide +kernel

/-- dropping its low bit halves it, -/
theorem shrsi_one : ∀ c : Fin 256, IntOp.shrsi .vector (BitVec.ofNat 32 c.val) 1#32 = BitVec.ofNat 32 (c.val / 2) := by
  decide +kernel

/-- and the bits two indices share are those of their words. -/
theorem shared_bits (r c : Fin 256) :
    IntOp.andi (IntOp.andi (BitVec.ofNat 32 r.val) 127#32) (IntOp.shrsi .vector (BitVec.ofNat 32 c.val) 1#32) =
      BitVec.ofNat 32 ((r.val % 128) &&& (c.val / 2)) := by
  rw [andi_127, shrsi_one]
  exact BitVec.ofNat_and.symm

/-- The test "row in the upper half", -/
theorem upper_half : ∀ r : Fin 256, IntOp.cmpi .sge (BitVec.ofNat 32 r.val) 128#32 = if r.val / 128 = 1 then 1#1 else 0#1 := by
  decide +kernel

/-- and the test "column odd". -/
theorem odd_column : ∀ c : Fin 256,
    IntOp.cmpi .eq (IntOp.andi (BitVec.ofNat 32 c.val) 1#32) 1#32 = if c.val % 2 = 1 then 1#1 else 0#1 := by
  decide +kernel

/-- The nibble taken in a 32-bit word, as the reference takes it. -/
theorem nibble_word : ∀ (h : Fin 2) (v : BitVec 8),
    (IntOp.shrsi .host (IntOp.shli .host (v.setWidth 32) (if h = 0 then 28#32 else 24#32)) 28#32).toInt = nibble h v := by
  have key : ∀ (h : Fin 2) (v : Fin 256),
      (IntOp.shrsi .host (IntOp.shli .host ((BitVec.ofFin v : BitVec 8).setWidth 32) (if h = 0 then 28#32 else 24#32)) 28#32).toInt =
        nibble h (BitVec.ofFin v) := by decide +kernel
  exact fun h v => key h v.toFin

/-- The nibble taken as one half of a 32-bit word holding both, as the kernel takes it. -/
theorem nibble_half : ∀ (h : Fin 2) (v : BitVec 8),
    ((IntOp.ori (IntOp.andi (IntOp.shrsi .vector (IntOp.shli .vector (v.setWidth 32) 28#32) 28#32) 65535#32)
      (IntOp.shli .vector (IntOp.shrsi .vector (IntOp.shli .vector (v.setWidth 32) 24#32) 28#32) 16#32)).extractLsb' (16 * h.val) 16).toInt =
      nibble h v := by
  have key : ∀ (h : Fin 2) (v : Fin 256),
      ((IntOp.ori (IntOp.andi (IntOp.shrsi .vector (IntOp.shli .vector ((BitVec.ofFin v : BitVec 8).setWidth 32) 28#32) 28#32) 65535#32)
        (IntOp.shli .vector (IntOp.shrsi .vector (IntOp.shli .vector ((BitVec.ofFin v : BitVec 8).setWidth 32) 24#32) 28#32) 16#32)).extractLsb' (16 * h.val) 16).toInt =
        nibble h (BitVec.ofFin v) := by decide +kernel
  exact fun h v => key h v.toFin

/-- The scale of the rotation, the single-precision value nearest to one over the square root of 128. -/
def scl : EReal := Ideal.ofBits .f32 0x3DB504F3#32

/-- It is a finite number, and not negative. -/
theorem scl_eq : scl = (((11863283 : ℝ) / 134217728 : ℝ) : EReal) := by
  unfold scl
  simp [Ideal.ofBits, Ideal.ieee]
  rw [← EReal.coe_mul]
  norm_num

theorem scl_nonneg : 0 ≤ scl := by
  rw [scl_eq]; exact_mod_cast (by norm_num : (0 : ℝ) ≤ 11863283 / 134217728)

theorem scl_ne_top : scl ≠ ⊤ := by rw [scl_eq]; exact EReal.coe_ne_top _

/-- So it may be taken out of a sum, whatever the terms. -/
theorem sum_mul_scl {ι : Type} (s : Finset ι) (f : ι → EReal) : (∑ i ∈ s, f i) * scl = ∑ i ∈ s, f i * scl := by
  classical
  induction s using Finset.induction_on with
  | empty => simp
  | insert a s ha ih =>
    rw [Finset.sum_insert ha, Finset.sum_insert ha, ← ih]
    exact EReal.right_distrib_of_nonneg_of_ne_top scl_nonneg scl_ne_top _ _

end Cert.Proof

end
-- ==== Proof.Entries.lean ====
/-
  What one step, one rotation and the packing of the scales compute, entry by entry, over the extended reals.
-/
module

public import proofs.«01_k».proof.Proof.Steps
public import proofs.«01_k».proof.Proof.Signs
public import Idealize.ShloMosaic.Lib.Bf16Pair
public import Idealize.ShloMosaic.Lib.BitcastPair
public import Idealize.ShloMosaic.Lib.Bf16PairInverse

@[expose] public section

set_option maxRecDepth 16384

noncomputable section

namespace Cert.Proof

open Cert.KernelIdeal Cert.KernelIdeal.Gen
open Idealize.ShloMosaic Idealize.ShloMosaic.TcCoe Idealize.SL.Sem

/-- The half a row of an interleaved block belongs to: its parity. -/
abbrev half (r : Fin 256) : Fin 2 := ⟨r.val % 2, Nat.mod_lt _ (by decide)⟩
/-- The row within its half. -/
abbrev row (r : Fin 256) : Fin 128 := ⟨r.val / 2, by omega⟩

/-- Row `r` of the unpacked codes holds the nibbles of half `r % 2` of packed row `r / 2`. -/
theorem codes_apply (w : Vec Ideal S128x256 .i8) (r n : Fin 256) :
    codes w (ix2 r n) = (((nibble (half r) (w (ix2 (row r) n)) : ℤ) : ℝ) : EReal) := by
  have hi : ∀ (x : S128x256.Idx → BitVec 32), bitcast S256x256 16 x bitcasts_S128x256_w32_S256x256_w16 (ix2 r n) =
      (x (ix2 (row r) n)).extractLsb' (16 * (half r).val) 16 := by
    intro x
    rw [bitcast_32_16]
    congr 1
    congr 1
    funext a
    apply Fin.ext
    match a with
    | ⟨0, _⟩ => rfl
    | ⟨1, _⟩ => rfl
  unfold codes k0_pay49
  show (((bitcast S256x256 16 _ bitcasts_S128x256_w32_S256x256_w16 (ix2 r n)).toInt : ℝ) : EReal) = _
  rw [hi, ← nibble_half]
  rfl

/-- Row `r` of the repeated scales is the scale of half `r % 2`. -/
theorem scales_apply (s : Vec Ideal S1x2x256 .bf16) (r n : Fin 256) : scales s (ix2 r n) = s (ix3 0 (half r) n) := by
  pointwise [scales, k0_pay50]
  rcases Nat.mod_two_eq_zero_or_one r.val with h | h
  · have : half r = 0 := Fin.ext h
    simp [h, this]
  · have : half r = 1 := Fin.ext h
    simp [h, this]

/-- One step adds the 256 products of its group. -/
theorem step_apply (acc : FVec Ideal S48x256 .f32) (x : Vec Ideal S48x256 .bf16) (w : Vec Ideal S128x256 .i8)
    (s : Vec Ideal S1x2x256 .bf16) (b : Fin 48) (n : Fin 256) :
    step acc x w s (ix2 b n) = acc (ix2 b n) + ∑ r : Fin 256, x (ix2 b r) *
      ((((nibble (half r) (w (ix2 (row r) n)) : ℤ) : ℝ) : EReal) * s (ix3 0 (half r) n)) := by
  pointwise [step]
  simp only [codes_apply, scales_apply]

/-- So the steps add up to the products of all the groups taken. -/
theorem steps_apply (X : Fin 32 → Vec Ideal S48x256 .bf16) (W : Fin 32 → Vec Ideal S128x256 .i8)
    (S : Fin 32 → Vec Ideal S1x2x256 .bf16) (b : Fin 48) (n : Fin 256) : ∀ (N : ℕ) (h : N ≤ 32),
    steps X W S N h (ix2 b n) = ∑ g : Fin N, ∑ r : Fin 256, X (Fin.castLE h g) (ix2 b r) *
      ((((nibble (half r) (W (Fin.castLE h g) (ix2 (row r) n)) : ℤ) : ℝ) : EReal) * S (Fin.castLE h g) (ix3 0 (half r) n))
  | 0, _ => by
    show k0_pay48 (F := Ideal) (ix2 b n) = _
    pointwise [k0_pay48]
    simp
  | N + 1, h => by
    show step (steps X W S N _) _ _ _ (ix2 b n) = _
    rw [step_apply, steps_apply X W S b n N (Nat.le_of_succ_le h), Fin.sum_univ_castSucc (n := N)]
    rfl

/-- What a tile stores at an entry. -/
theorem tile_apply (X : Fin 32 → Vec Ideal S48x256 .bf16) (W : Fin 32 → Vec Ideal S128x256 .i8)
    (S : Fin 32 → Vec Ideal S1x2x256 .bf16) (b : Fin 48) (n : Fin 256) :
    tile X W S (ix2 b n) = ∑ g : Fin 32, ∑ r : Fin 256, X g (ix2 b r) *
      ((((nibble (half r) (W g (ix2 (row r) n)) : ℤ) : ℝ) : EReal) * S g (ix3 0 (half r) n)) := by
  show steps X W S 32 le_rfl (ix2 b n) = _
  rw [steps_apply]
  rfl

/-- The sign matrix of the rotation: the Hadamard sign where row and column belong to one half, zero elsewhere. -/
theorem signs_apply (r c : Fin 256) :
    k0_pay1 (F := Ideal) (ix2 r c) = if r.val / 128 = c.val % 2 then sgn (r.val % 128) (c.val / 2) else 0 := by
  have h2 : Ideal.ofBits .f32 1073741824#32 = ((2 : ℝ) : EReal) := by
    simp [Ideal.ofBits, Ideal.ieee]
    rw [← EReal.coe_mul]
    norm_num
  have hs : sgn (r.val % 128) (c.val / 2) =
      1 - ((2 : ℝ) : EReal) * (((parity (BitVec.ofNat 32 ((r.val % 128) &&& (c.val / 2)))).toInt : ℝ) : EReal) := by
    unfold sgn
    rw [had_eq_parity ⟨r.val % 128, Nat.mod_lt _ (by decide)⟩ ⟨c.val / 2, by omega⟩]
    push_cast
    rfl
  pointwise [k0_pay1]
  rw [shared_bits, upper_half, odd_column, h2, hs]
  have hr : r.val / 128 = 0 ∨ r.val / 128 = 1 := by omega
  have hc : c.val % 2 = 0 ∨ c.val % 2 = 1 := by omega
  rcases hr with hr | hr <;> rcases hc with hc | hc <;> rw [hr, hc] <;> rfl

/-- A rotation at an entry: the signed sum over the 128 channels of the column's half, scaled. -/
theorem rotate_apply (lo hi : Vec Ideal S48x128 .bf16) (b : Fin 48) (c : Fin 256) :
    rotate lo hi (ix2 b c) =
      (∑ j : Fin 128, (if c.val % 2 = 0 then lo (ix2 b j) else hi (ix2 b j)) * sgn j.val (c.val / 2)) * scl := by
  pointwise [rotate, k0_pay46, k0_pay2]
  simp only [signs_apply]
  unfold scl
  congr 1
  have e1 : ∀ x : Fin 128, x.val / 128 = 0 := fun x => by omega
  have e2 : ∀ x : Fin 128, (128 + x.val) / 128 = 1 := fun x => by omega
  have e3 : ∀ x : Fin 128, x.val % 128 = x.val := fun x => by omega
  have e4 : ∀ x : Fin 128, (128 + x.val) % 128 = x.val := fun x => by omega
  have hc : c.val % 2 = 0 ∨ c.val % 2 = 1 := by omega
  rcases hc with hc | hc <;> simp [hc, e1, e2, e3, e4]

/-- The packed pair of scales: half `h` of row `g`. -/
theorem pair_apply (lo hi : Vec Ideal S32x1024 .bf16) (g : Fin 32) (h : Fin 2) (n : Fin 1024) :
    k0_pay47 lo hi (ix3 g h n) = if h = 0 then lo (ix2 g n) else hi (ix2 g n) := by
  pointwise [k0_pay47]
  fin_cases h <;> simp

end Cert.Proof

end
-- ==== Proof.Arrays.lean ====
/-
  What one grid point leaves in its arrays, over the extended reals: the rotated activations in the carried scratch, the
  scale pairs in the other, and the four tiles of the output block.
-/
module

public import proofs.«01_k».proof.Proof.Entries

@[expose] public section

set_option maxRecDepth 16384

noncomputable section

namespace Cert.Proof

open Cert.KernelIdeal Cert.KernelIdeal.Gen
open Idealize.ShloMosaic Idealize.ShloMosaic.TcCoe Idealize.SL.Sem

/-- Channel `j` of group `g` of half `h`. -/
abbrev chan (h : Fin 2) (g : Fin 32) (j : Fin 128) : Fin 8192 := ⟨4096 * h.val + 128 * g.val + j.val, by omega⟩

/-- The rotated activation of channel `k` of group `g` of half `h`. -/
def rot (x : Vec Ideal S48x8192 .bf16) (b : Fin 48) (h : Fin 2) (g : Fin 32) (k : ℕ) : EReal :=
  (∑ j : Fin 128, x (ix2 b (chan h g j)) * sgn j.val k) * scl

/-- The rotated activations as the scratch holds them: group by group, the two halves interleaved. -/
def rotated (x : Vec Ideal S48x8192 .bf16) : Vec Ideal S48x8192 .bf16 := fun i =>
  rot x (i 0) ⟨(i 1).val % 2, Nat.mod_lt _ (by decide)⟩
    ⟨(i 1).val / 256, by have h : (i 1).val < 8192 := (i 1).isLt; omega⟩ ((i 1).val % 256 / 2)

/-- The output block over rotated activations `xr`, packed codes `w` and scales `s`. -/
def blockOut (xr : Vec Ideal S48x8192 .bf16) (w : Vec Ideal S4096x1024 .i8) (s : Vec Ideal S64x1024 .bf16) :
    Vec Ideal S48x1024 .bf16 := fun i =>
  ∑ g : Fin 32, ∑ r : Fin 256, xr (ix2 (i 0) ⟨256 * g.val + r.val, by omega⟩) *
    ((((nibble (half r) (w (ix2 ⟨128 * g.val + r.val / 2, by omega⟩ (i 1))) : ℤ) : ℝ) : EReal) *
      s (ix2 ⟨32 * (r.val % 2) + g.val, by omega⟩ (i 1)))

/-- A member of the family below `n` is in its first `n` pieces. -/
theorem mem_firstPieces_of_lt {F : FTy → Type} {S : Shape} {e : EltTy} {N : ℕ} (P : Fin N → View.Piece (Elt F) S e) (k : Fin N) :
    ∀ (n : ℕ) (h : n ≤ N), k.val < n → P k ∈ firstPieces P n h
  | n + 1, h, hk => by
    by_cases he : k.val = n
    · subst he; exact List.mem_cons_self
    · exact List.mem_cons_of_mem _ (mem_firstPieces_of_lt P k n _ (by omega))

/-- Every index of a 48-row tile is a pair. -/
theorem exists_pair {m n : ℕ} (x : (⟨2, ![m, n]⟩ : Shape).Idx) : ∃ (b : Fin m) (c : Fin n), x = ix2 b c :=
  ⟨x 0, x 1, by funext a; match a with | ⟨0, _⟩ => rfl | ⟨1, _⟩ => rfl⟩

section

variable (c : Dev nD) (i : grid0.Coords) (arg1 : Memref sig .tc .vmem S48x8192 .bf16) (harg1 : arg1.IsWhole) (arg2 : Memref sig .tc .vmem S4096x1024 .i8) (harg2 : arg2.IsWhole) (arg3 : Memref sig .tc .vmem S64x1024 .bf16) (harg3 : arg3.IsWhole) (arg4 : Memref sig .tc .vmem S48x1024 .bf16) (harg4 : arg4.IsWhole) (arg5 : Memref sig .tc .vmem S48x8192 .bf16) (harg5 : arg5.IsWhole) (arg6 : Memref sig .tc .vmem S32x2x1024 .bf16) (harg6 : arg6.IsWhole)
    (x0 : Vec Ideal S48x8192 .bf16) (x1 : Vec Ideal S4096x1024 .i8) (x2 : Vec Ideal S64x1024 .bf16) (xs0 : Vec Ideal S48x8192 .bf16)

/-- A load of 128 channels reads them. -/
theorem load_half (h : Fin 2) (g : Fin 32) (b : Fin 48) (j : Fin 128) :
    View.readAt (Elt Ideal) arg1.view (rectH h g).toLoadRect (harg1.unread x0) (ix2 b j) = x0 (ix2 b (chan h g j)) := by
  rw [View.readAt_eq_ld, harg1.read_unread]
  refine congrArg x0 (funext fun a => Fin.ext ?_)
  match a with
  | ⟨0, _⟩ => show 0 + 1 * b.val = b.val; omega
  | ⟨1, _⟩ => show 4096 * h.val + 128 * g.val + 1 * j.val = 4096 * h.val + 128 * g.val + j.val; omega

/-- A load of packed codes reads them. -/
theorem load_codes (g : Fin 32) (n : Fin 4) (k : Fin 128) (y : Fin 256) :
    View.readAt (Elt Ideal) arg2.view (rectW g n).toLoadRect (harg2.unread x1) (ix2 k y) =
      x1 (ix2 ⟨128 * g.val + k.val, by omega⟩ ⟨256 * n.val + y.val, by omega⟩) := by
  rw [View.readAt_eq_ld, harg2.read_unread]
  refine congrArg x1 (funext fun a => Fin.ext ?_)
  match a with
  | ⟨0, _⟩ => show 128 * g.val + 1 * k.val = 128 * g.val + k.val; omega
  | ⟨1, _⟩ => show 256 * n.val + 1 * y.val = 256 * n.val + y.val; omega

/-- A load of one half of the scales reads them. -/
theorem load_scales (h : Fin 2) (g : Fin 32) (y : Fin 1024) :
    View.readAt (Elt Ideal) arg3.view (rectP h).toLoadRect (harg3.unread x2) (ix2 g y) =
      x2 (ix2 ⟨32 * h.val + g.val, by omega⟩ y) := by
  rw [View.readAt_eq_ld, harg3.read_unread]
  refine congrArg x2 (funext fun a => Fin.ext ?_)
  match a with
  | ⟨0, _⟩ => show 32 * h.val + 1 * g.val = 32 * h.val + g.val; omega
  | ⟨1, _⟩ => show 0 + 1 * y.val = y.val; omega

/-- A load of a scale pair, after the one store of them all, reads the scales of the two halves. -/
theorem load_pair (g : Fin 32) (n : Fin 4) (h : Fin 2) (y : Fin 256) :
    arg6.view.readCov (pairPieces arg3 harg3 x2) (rectS g n).toLoadRect (ix3 0 h y) =
      x2 (ix2 ⟨32 * h.val + g.val, by omega⟩ ⟨256 * n.val + y.val, by omega⟩) := by
  have hz : (![0, 0, 0] : Fin 3 → ℕ) = fun _ => 0 := by
    funext a; fin_cases a <;> rfl
  have hi : (rectS g n).idx (ix3 (0 : Fin 1) h y) = ix3 g h (⟨256 * n.val + y.val, by omega⟩ : Fin 1024) := by
    funext a
    apply Fin.ext
    match a with
    | ⟨0, _⟩ => show g.val + 1 * 0 = g.val; omega
    | ⟨1, _⟩ => show 0 + 1 * h.val = h.val; omega
    | ⟨2, _⟩ => show 256 * n.val + 1 * y.val = 256 * n.val + y.val; omega
  rw [View.readCov_eq_canon', pairPieces, View.canon_unit_zero hz]
  show k0_pay47 _ _ ((rectS g n).idx (ix3 (0 : Fin 1) h y)) = _
  rw [hi, pair_apply, load_scales, load_scales]
  fin_cases h <;> rfl

/-- The 32 rotations fill the scratch with the rotated activations. -/
theorem canon_rot : View.canon (firstPieces (rotPiece arg1 harg1 x0) 32 le_rfl) = rotated x0 := by
  funext y
  refine View.canon_apply_of_pieces (rotated x0) _ ?_ y ?_
  · intro p hp x
    obtain ⟨g, rfl⟩ := mem_firstPieces _ p _ _ hp
    obtain ⟨b, k, rfl⟩ := exists_pair (m := 48) (n := 256) x
    show rotate (F := Ideal) _ _ (ix2 b k) = rotated x0 ((rectX g).emb (ix2 b k))
    have he : (rectX g).emb (ix2 b k) = ix2 b (⟨256 * g.val + k.val, by omega⟩ : Fin 8192) := by
      funext a
      apply Fin.ext
      match a with
      | ⟨0, _⟩ => show 0 + 1 * b.val = b.val; omega
      | ⟨1, _⟩ => show 256 * g.val + 1 * k.val = 256 * g.val + k.val; omega
    rw [he, rotate_apply]
    unfold rotated rot
    simp only [load_half]
    show _ = (∑ j : Fin 128, x0 (ix2 b (chan ⟨(256 * g.val + k.val) % 2, _⟩ ⟨(256 * g.val + k.val) / 256, _⟩ j)) *
      sgn j.val ((256 * g.val + k.val) % 256 / 2)) * scl
    have e1 : (256 * g.val + k.val) % 256 / 2 = k.val / 2 := by omega
    have e2 : (256 * g.val + k.val) / 256 = g.val := by omega
    have e3 : (256 * g.val + k.val) % 2 = k.val % 2 := by omega
    have hk : k.val % 2 = 0 ∨ k.val % 2 = 1 := by omega
    simp only [e1, e2, e3]
    rcases hk with hk | hk <;> simp only [hk] <;> rfl
  · have h0 : (y 0).val < 48 := (y 0).isLt
    have h1 : (y 1).val < 8192 := (y 1).isLt
    obtain ⟨q, hq⟩ : ∃ q : Fin 32, q.val = (y 1).val / 256 := ⟨⟨(y 1).val / 256, by omega⟩, rfl⟩
    refine ⟨_, mem_firstPieces_of_lt (rotPiece arg1 harg1 x0) q 32 le_rfl q.isLt, ?_⟩
    show y ∈ (rectX q).set
    refine Rect.mem_set_unit.mpr fun a => ?_
    match a with
    | ⟨0, _⟩ => show 0 ≤ (y 0).val ∧ (y 0).val < 0 + 48; omega
    | ⟨1, _⟩ => show 256 * q.val ≤ (y 1).val ∧ (y 1).val < 256 * q.val + 256; omega

/-- The four tiles fill the output block, whatever rotated activations `xr` the loads of the scratch read. -/
theorem canon_tiles (xr : Vec Ideal S48x8192 .bf16) (X : Fin 32 → Vec Ideal S48x256 .bf16)
    (hX : ∀ g, X g = View.ld (Val := Elt Ideal) xr (rectX g)) :
    View.canon (firstPieces (tilePiece arg2 harg2 arg3 harg3 arg6 x1 x2 X) 4 le_rfl) = blockOut xr x1 x2 := by
  funext y
  refine View.canon_apply_of_pieces (blockOut xr x1 x2) _ ?_ y ?_
  · intro p hp x
    obtain ⟨n, rfl⟩ := mem_firstPieces _ p _ _ hp
    obtain ⟨b, k, rfl⟩ := exists_pair (m := 48) (n := 256) x
    show tile (F := Ideal) _ _ _ (ix2 b k) = blockOut xr x1 x2 ((rectO n).emb (ix2 b k))
    have he : (rectO n).emb (ix2 b k) = ix2 b (⟨256 * n.val + k.val, by omega⟩ : Fin 1024) := by
      funext a
      apply Fin.ext
      match a with
      | ⟨0, _⟩ => show 0 + 1 * b.val = b.val; omega
      | ⟨1, _⟩ => show 256 * n.val + 1 * k.val = 256 * n.val + k.val; omega
    have hx : ∀ (g : Fin 32) (r : Fin 256), X g (ix2 b r) = xr (ix2 b (⟨256 * g.val + r.val, by omega⟩ : Fin 8192)) := by
      intro g r
      rw [hX]
      refine congrArg xr (funext fun a => Fin.ext ?_)
      match a with
      | ⟨0, _⟩ => show 0 + 1 * b.val = b.val; omega
      | ⟨1, _⟩ => show 256 * g.val + 1 * r.val = 256 * g.val + r.val; omega
    rw [he, tile_apply]
    simp only [load_codes, load_pair, hx]
    rfl
  · have h0 : (y 0).val < 48 := (y 0).isLt
    have h1 : (y 1).val < 1024 := (y 1).isLt
    obtain ⟨q, hq⟩ : ∃ q : Fin 4, q.val = (y 1).val / 256 := ⟨⟨(y 1).val / 256, by omega⟩, rfl⟩
    refine ⟨_, mem_firstPieces_of_lt (tilePiece arg2 harg2 arg3 harg3 arg6 x1 x2 X) q 4 le_rfl q.isLt, ?_⟩
    show y ∈ (rectO q).set
    refine Rect.mem_set_unit.mpr fun a => ?_
    match a with
    | ⟨0, _⟩ => show 0 ≤ (y 0).val ∧ (y 0).val < 0 + 48; omega
    | ⟨1, _⟩ => show 256 * q.val ≤ (y 1).val ∧ (y 1).val < 256 * q.val + 256; omega

/-- The first point leaves the rotated activations in the carried scratch, -/
theorem scratch_A (hc0 : cond0_0 i) :
    sout0_A_0 c i arg1 harg1 arg2 harg2 arg3 harg3 arg4 harg4 arg5 harg5 arg6 harg6 hc0 x0 x1 x2 = rotated x0 := by
  unfold sout0_A_0
  rw [View.read_writes_junk_eq_canon, rotated_A, canon_rot]

/-- and the output block over them. -/
theorem out_A (hc0 : cond0_0 i) :
    out0_A_3 c i arg1 harg1 arg2 harg2 arg3 harg3 arg4 harg4 arg5 harg5 arg6 harg6 hc0 x0 x1 x2 = blockOut (rotated x0) x1 x2 := by
  unfold out0_A_3
  rw [View.read_writes_junk_eq_canon, pieces_A]
  refine canon_tiles _ _ _ _ _ _ _ _ _ fun g => ?_
  rw [View.readCov_eq_canon', canon_rot]

/-- Every other point leaves the output block over the rotated activations it finds. -/
theorem out_B (hc0 : ¬cond0_0 i) :
    out0_B_3 c i arg1 harg1 arg2 harg2 arg3 harg3 arg4 harg4 arg5 harg5 arg6 harg6 hc0 x0 x1 x2 xs0 = blockOut xs0 x1 x2 := by
  unfold out0_B_3
  rw [View.read_writes_junk_eq_canon, pieces_B]
  refine canon_tiles _ _ _ _ _ _ _ _ _ fun g => ?_
  rw [View.readAt_eq_ld, harg5.read_unread]

end

end Cert.Proof

end
-- ==== Proof.Result.lean ====
/-
  What the kernel's result array holds after the run, over the extended reals, as a function of its three arguments.
-/
module

public import proofs.«01_k».proof.Proof.Arrays
public import Idealize.ShloMosaic.Lib.Claim

@[expose] public section

set_option maxRecDepth 16384

noncomputable section

namespace Cert.Proof

open Cert.KernelIdeal Cert.KernelIdeal.Gen
open Idealize.ShloMosaic Idealize.ShloMosaic.TcCoe Idealize.SL.Sem
open Idealize.ShloMosaic.Pipeline (Dat)

/-- The activations with their middle axis, of one element, dropped. -/
def flat (x : Vec Ideal S48x1x8192 .bf16) : Vec Ideal S48x8192 .bf16 := fun i => x (ix3 (i 0) 0 (i 1))

/-- The kernel's result over rotated activations `xr`, packed codes `w` and scales `s`. -/
def wholeOut (xr : Vec Ideal S48x8192 .bf16) (w : Vec Ideal S4096x32768 .i8) (s : Vec Ideal S64x32768 .bf16) :
    Vec Ideal S48x32768 .bf16 := fun i =>
  ∑ g : Fin 32, ∑ r : Fin 256, xr (ix2 (i 0) ⟨256 * g.val + r.val, by omega⟩) *
    ((((nibble (half r) (w (ix2 ⟨128 * g.val + r.val / 2, by omega⟩ (i 1))) : ℤ) : ℝ) : EReal) *
      s (ix2 ⟨32 * (r.val % 2) + g.val, by omega⟩ (i 1)))

variable (m : (ℓ : Loc nD τ sig) → Buf (Elt Ideal) ℓ)

/-- The blocks of the four windows at point `t`: the whole of the activations, column block `t` of the others. -/
theorem idx : ∀ t : Fin cfg0.N, win0_0.index t = ![0, 0] ∧ win0_1.index t = ![0, t.val] ∧ win0_2.index t = ![0, t.val] ∧
    win0_3.index t = ![0, t.val] :=
  (by decide +kernel : ∀ t : Fin grid0.N, _)

/-- Column `y` of column block `t`. -/
abbrev col (t : Fin cfg0.N) (y : Fin 1024) : Fin 32768 :=
  ⟨1024 * t.val + y.val, by have h : t.val < 32 := lt_of_lt_of_eq t.isLt N_0; omega⟩

/-- The first input block is the flattened activations, at every point. -/
theorem iblk0 (c : Dev nD) (t : Fin cfg0.N) : iblk m c 0 t = flat (m ((c : Thread nD τ).loc main_arg0)) := by
  funext y
  obtain ⟨b, j, rfl⟩ := exists_pair (m := 48) (n := 8192) y
  show iblk m c 0 t (ix2 b j) = m ((c : Thread nD τ).loc main_arg0) (ix3 b 0 j)
  blk_ext! [iblk, V, idx t]

/-- The second is a column block of the packed codes, -/
theorem iblk1 (c : Dev nD) (t : Fin cfg0.N) (p : Fin 4096) (y : Fin 1024) :
    iblk m c 1 t (ix2 p y) = m ((c : Thread nD τ).loc main_arg1) (ix2 p (col t y)) := by
  blk_ext [iblk, V, idx t]

/-- and the third one of the scales. -/
theorem iblk2 (c : Dev nD) (t : Fin cfg0.N) (p : Fin 64) (y : Fin 1024) :
    iblk m c 2 t (ix2 p y) = m ((c : Thread nD τ).loc main_arg2) (ix2 p (col t y)) := by
  blk_ext [iblk, V, idx t]

/-- After every point the carried scratch holds the rotated activations: the first point writes them, no other point
    changes them. -/
theorem carried (c : Dev nD) : ∀ (n : ℕ) (h : n < cfg0.N),
    (outsAt0 m c n h).2 = rotated (flat (m ((c : Thread nD τ).loc main_arg0)))
  | 0, h => by
    rw [outsAt0_A m c ⟨0, h⟩ rfl]
    dsimp only
    rw [scratch_A, iblk0]
  | n + 1, h => by
    have hN : cfg0.N = 32 := rfl
    rw [outsAt0_B m c ⟨n + 1, h⟩ (by show ¬ (n + 1) % 32 = 0; omega)]
    exact carried c n (Nat.lt_of_succ_lt h)

/-- So every point leaves its output block over them. -/
theorem block (c : Dev nD) (t : Fin cfg0.N) : (outsAt0 m c t.val t.isLt).1 =
    blockOut (rotated (flat (m ((c : Thread nD τ).loc main_arg0)))) (iblk m c 1 t) (iblk m c 2 t) := by
  by_cases h : t.val % 32 = 0
  · rw [outsAt0_A m c t h]
    dsimp only
    rw [out_A, iblk0]
  · rw [outsAt0_B m c t h]
    dsimp only
    rw [out_B, carried]

/-- An output block is the column block of the whole result. -/
theorem blockOut_iblk (c : Dev nD) (t : Fin cfg0.N) (xr : Vec Ideal S48x8192 .bf16) (b : Fin 48) (n : Fin 1024) :
    blockOut xr (iblk m c 1 t) (iblk m c 2 t) (ix2 b n) =
      wholeOut xr (m ((c : Thread nD τ).loc main_arg1)) (m ((c : Thread nD τ).loc main_arg2)) (ix2 b (col t n)) := by
  refine Finset.sum_congr rfl fun g _ => Finset.sum_congr rfl fun r _ => ?_
  exact congrArg (xr (ix2 b ⟨256 * g.val + r.val, by omega⟩) * ·) (congrArg₂ (fun (v : BitVec 8) (s : EReal) =>
    (((nibble (half r) v : ℤ) : ℝ) : EReal) * s) (iblk1 m c t ⟨128 * g.val + r.val / 2, by omega⟩ n)
    (iblk2 m c t ⟨32 * (r.val % 2) + g.val, by omega⟩ n))

/-- The blocks make up the result array. -/
theorem final (c : Dev nD) : (dats m 0 c).arrAt 3 cfg0.N =
    wholeOut (rotated (flat (m ((c : Thread nD τ).loc main_arg0)))) (m ((c : Thread nD τ).loc main_arg1))
      (m ((c : Thread nD τ).loc main_arg2)) := by
  refine (dats m 0 c).arrAt_eq_of_covers 3 _ (by decide +kernel) fun t hf y => ?_
  blk_simp
  rw [after0_3, block]
  obtain ⟨b, n, rfl⟩ := exists_pair (m := 48) (n := 1024) y
  have he : ((cfg0.win 3).blk t).view.emb (ix2 b n) = ix2 b (col t n) := by
    blk_ext [idx t]
  rw [he]
  exact blockOut_iblk m c t _ b n

end Cert.Proof

end
-- ==== Proof.Reference.lean ====
/-
  What the reference computes, entry by entry, over the extended reals: its sign matrix, its rotated activations, its
  dequantized weights and the product of the two.
-/
module

public import proofs.«01_k».proof.Proof.Gen.ReferenceIdeal.Run
public import proofs.«01_k».proof.Proof.Signs
public import Idealize.ShloMosaic.Lib.Pointwise
public import Idealize.ShloMosaic.Lib.IdealHost

@[expose] public section

set_option maxRecDepth 16384

noncomputable section

namespace Cert.Proof

open Cert.ReferenceIdeal Cert.ReferenceIdeal.Gen
open Idealize.ShloMosaic Idealize.ShloMosaic.TcCoe Idealize.SL.Sem

/-- A square matrix doubled: itself in three quarters, its negative in the last. -/
def doubled {n n2 : ℕ} (H : FVec Ideal ⟨2, ![n, n]⟩ .f32)
    (h1 : Shape.Concatenates [⟨2, ![n, n]⟩, ⟨2, ![n, n]⟩] ⟨2, ![n, n2]⟩ 1)
    (h0 : Shape.Concatenates [⟨2, ![n, n2]⟩, ⟨2, ![n, n2]⟩] ⟨2, ![n2, n2]⟩ 0) : FVec Ideal ⟨2, ![n2, n2]⟩ .f32 :=
  concatenate ⟨2, ![n2, n2]⟩ 0 [⟨⟨2, ![n, n2]⟩, concatenate ⟨2, ![n, n2]⟩ 1 [⟨⟨2, ![n, n]⟩, H⟩, ⟨⟨2, ![n, n]⟩, H⟩] h1⟩,
    ⟨⟨2, ![n, n2]⟩, concatenate ⟨2, ![n, n2]⟩ 1 [⟨⟨2, ![n, n]⟩, H⟩, ⟨⟨2, ![n, n]⟩, Host.negf H⟩] h1⟩] h0

/-- A matrix holds the signs of order `l`. -/
def HoldsSigns (l n : ℕ) (H : FVec Ideal ⟨2, ![n, n]⟩ .f32) : Prop :=
  ∀ i : (⟨2, ![n, n]⟩ : Shape).Idx, H i = (((had l (i 0).val (i 1).val : ℤ) : ℝ) : EReal)

/-- Doubling raises the order by one. -/
theorem HoldsSigns.doubled {l n n2 : ℕ} (hn : n = 2 ^ l) (H : FVec Ideal ⟨2, ![n, n]⟩ .f32) (hH : HoldsSigns l n H)
    (h1 : Shape.Concatenates [⟨2, ![n, n]⟩, ⟨2, ![n, n]⟩] ⟨2, ![n, n2]⟩ 1)
    (h0 : Shape.Concatenates [⟨2, ![n, n2]⟩, ⟨2, ![n, n2]⟩] ⟨2, ![n2, n2]⟩ 0) :
    HoldsSigns (l + 1) n2 (doubled H h1 h0) := by
  intro v
  obtain ⟨i, j, rfl⟩ : ∃ (i j : Fin n2), v = ix2 i j :=
    ⟨v 0, v 1, by funext a; match a with | ⟨0, _⟩ => rfl | ⟨1, _⟩ => rfl⟩
  pointwise [Cert.Proof.doubled]
  simp only [hH _]
  have hs : ∀ a b : ℕ, had (l + 1) a b =
      if a < n then (if b < n then had l a b else had l a (b - n))
      else (if b < n then had l (a - n) b else - had l (a - n) (b - n)) := by
    subst hn
    exact fun _ _ => rfl
  simp only [hs]
  by_cases hi : i.val < n <;> by_cases hj : j.val < n <;>
    simp [Shape.Idx.norm, hi, hj]

/-- The reference's 128 × 128 matrix of signs. -/
def hadamard (V0 : Valuation τ sig (Elt Ideal)) : FVec Ideal S128x128 .f32 :=
  concatenate S128x128 0 [⟨S64x128, (concatenate S64x128 1 [⟨S64x64, (Value.res_main_v12 V0)⟩, ⟨S64x64, (Value.res_main_v12 V0)⟩] concatenates_S64x64_S64x64_S64x128_d1)⟩, ⟨S64x128, (concatenate S64x128 1 [⟨S64x64, (Value.res_main_v12 V0)⟩, ⟨S64x64, (Host.negf (Value.res_main_v12 V0))⟩] concatenates_S64x64_S64x64_S64x128_d1)⟩] concatenates_S64x128_S64x128_S128x128_d0

/-- It holds the signs of order seven: the one, doubled seven times. -/
theorem hadamard_signs (V0 : Valuation τ sig (Elt Ideal)) : HoldsSigns 7 128 (hadamard V0) := by
  have e0 : HoldsSigns 0 1 (Value.res_main_v0 V0) := by
    intro i
    show Ideal.ofBits .f32 0x3F800000#32 = (((1 : ℤ) : ℝ) : EReal)
    simp [Ideal.ofBits, Ideal.ieee]
    rw [← EReal.coe_mul]
    norm_num
  have e1 : HoldsSigns 1 2 (Value.res_main_v2 V0) := HoldsSigns.doubled rfl _ e0 _ _
  have e2 : HoldsSigns 2 4 (Value.res_main_v4 V0) := HoldsSigns.doubled rfl _ e1 _ _
  have e3 : HoldsSigns 3 8 (Value.res_main_v6 V0) := HoldsSigns.doubled rfl _ e2 _ _
  have e4 : HoldsSigns 4 16 (Value.res_main_v8 V0) := HoldsSigns.doubled rfl _ e3 _ _
  have e5 : HoldsSigns 5 32 (Value.res_main_v10 V0) := HoldsSigns.doubled rfl _ e4 _ _
  have e6 : HoldsSigns 6 64 (Value.res_main_v12 V0) := HoldsSigns.doubled rfl _ e5 _ _
  exact HoldsSigns.doubled rfl _ e6 _ _

/-- The reference's rotated activations. -/
def refRot (V0 : Valuation τ sig (Elt Ideal)) (x : FVec Ideal S48x1x8192 .bf16) : FVec Ideal S48x1x64x128 .bf16 :=
  truncf .bf16 (Host.dotGeneral dot_S48x1x64x128_S128x128_S48x1x64x128_3_0_012_1_n_n (some .fp32) (shapeCast _ (extf .f32 x bitsLt_bf16_f32) shapeCasts_S48x1x8192_S48x1x64x128) (mulf (hadamard V0) (broadcastInDim S128x128 ![] bcast_S_S128x128 (constant S_ .f32 0x3DB504F3#32)))) bitsLt_bf16_f32

/-- At an entry: the sum of the 128 channels of a block, each by its scaled sign. -/
theorem refRot_apply (V0 : Valuation τ sig (Elt Ideal)) (x : FVec Ideal S48x1x8192 .bf16) (b : Fin 48) (g : Fin 64) (k : Fin 128) :
    refRot V0 x (ix4 b 0 g k) = ∑ j : Fin 128, x (ix3 b 0 ⟨g.val * 128 + j.val, by omega⟩) * (sgn j.val k.val * scl) := by
  have hs : ∀ j : Fin 128, hadamard V0 (ix2 j k) = sgn j.val k.val := fun j => hadamard_signs V0 (ix2 j k)
  pointwise [refRot]
  simp only [hs]
  rfl

/-- The reference's dequantized weights. -/
def refW (w : Vec Ideal S4096x32768 .i8) (s : FVec Ideal S64x32768 .bf16) : FVec Ideal S2x32x128x32768 .bf16 :=
  mulf (sitofp .bf16 (Host.shrsi (Host.shli (broadcastInDim S2x32x128x32768 ![0, 1, 2, 3] bcast_S1x32x128x32768_S2x32x128x32768_0_1_2_3 (shapeCast _ (extui 32 w natLt_8_32) shapeCasts_S4096x32768_S1x32x128x32768)) (broadcastInDim S2x32x128x32768 ![0, 1, 2, 3] bcast_S2x1x1x1_S2x32x128x32768_0_1_2_3 (shapeCast _ ((fun i => lit0 (S2.rowMajor i))) shapeCasts_S2_S2x1x1x1))) (broadcastInDim S2x32x128x32768 ![] bcast_S_S2x32x128x32768 (constantI S_ 32 28#32)))) (broadcastInDim S2x32x128x32768 ![0, 1, 2, 3] bcast_S2x32x1x32768_S2x32x128x32768_0_1_2_3 (shapeCast _ s shapeCasts_S64x32768_S2x32x1x32768))

/-- At an entry: the signed nibble by its scale. -/
theorem refW_apply (w : Vec Ideal S4096x32768 .i8) (s : FVec Ideal S64x32768 .bf16) (h : Fin 2) (g : Fin 32) (k : Fin 128) (n : Fin 32768) :
    refW w s (ix4 h g k n) = ((((nibble h (w (ix2 (⟨128 * g.val + k.val, by omega⟩ : Fin 4096) n)) : ℤ) : ℝ) : EReal)) *
      s (ix2 ⟨32 * h.val + g.val, by omega⟩ n) := by
  rw [← nibble_word]
  pointwise [refW]
  have hl : lit0 (S2.rowMajor (ix1 h)) = if h = 0 then 28#32 else 24#32 := by
    fin_cases h <;> rfl
  have ew : (⟨g.val * 128 + k.val, by omega⟩ : Fin 4096) = ⟨128 * g.val + k.val, by omega⟩ := Fin.ext (by
    show g.val * 128 + k.val = 128 * g.val + k.val; omega)
  have es : (⟨h.val * 32 + g.val, by omega⟩ : Fin 64) = ⟨32 * h.val + g.val, by omega⟩ := Fin.ext (by
    show h.val * 32 + g.val = 32 * h.val + g.val; omega)
  rw [hl, ew, es]
  rfl

/-- The contraction index of the product, from its three coordinates: the group, the half and the channel. -/
def contr3 (p : Fin 32 × Fin 2 × Fin 128) : dot_S48x1x2x32x128_S2x32x128x32768_S48x1x32768_324_102_01_3_n_n.contr.Idx :=
  (fun a => match a with | ⟨0, _⟩ => p.1 | ⟨1, _⟩ => p.2.1 | ⟨2, _⟩ => p.2.2 :
    (a : Fin 3) → Fin (dot_S48x1x2x32x128_S2x32x128x32768_S48x1x32768_324_102_01_3_n_n.contr.size a))

/-- Every contraction index comes from exactly one triple. -/
theorem contr3_bijective : Function.Bijective contr3 := by
  constructor
  · intro p q h
    exact Prod.ext (congrFun h (0 : Fin 3)) (Prod.ext (congrFun h (1 : Fin 3)) (congrFun h (2 : Fin 3)))
  · intro q
    have q' : (a : Fin 3) → Fin (dot_S48x1x2x32x128_S2x32x128x32768_S48x1x32768_324_102_01_3_n_n.contr.size a) := q
    refine ⟨(q (0 : Fin 3), q (1 : Fin 3), q (2 : Fin 3)), ?_⟩
    refine funext (fun a : Fin 3 => ?_)
    match a with
    | ⟨0, _⟩ => rfl
    | ⟨1, _⟩ => rfl
    | ⟨2, _⟩ => rfl

/-- The reference's result. -/
def refOut (X : FVec Ideal S48x1x64x128 .bf16) (W : FVec Ideal S2x32x128x32768 .bf16) : FVec Ideal S48x32768 .bf16 :=
  shapeCast _ (truncf .bf16 (Host.dotGeneral dot_S48x1x2x32x128_S2x32x128x32768_S48x1x32768_324_102_01_3_n_n none (shapeCast _ X shapeCasts_S48x1x64x128_S48x1x2x32x128) W) bitsLt_bf16_f32) shapeCasts_S48x1x32768_S48x32768

/-- The reshape of the rotated activations splits their 64 blocks in two halves of 32. -/
theorem split_apply (X : FVec Ideal S48x1x64x128 .bf16) (b : Fin 48) (h : Fin 2) (g : Fin 32) (k : Fin 128) :
    shapeCast S48x1x2x32x128 X shapeCasts_S48x1x64x128_S48x1x2x32x128 (ix5 b 0 h g k) =
      X (ix4 b 0 ⟨32 * h.val + g.val, by omega⟩ k) := by
  have es : (⟨h.val * 32 + g.val, by omega⟩ : Fin 64) = ⟨32 * h.val + g.val, by omega⟩ := Fin.ext (by
    show h.val * 32 + g.val = 32 * h.val + g.val; omega)
  pointwise
  rw [es]

/-- At an entry: the sum of the products over the groups, the halves and the channels. -/
theorem refOut_apply (X : FVec Ideal S48x1x64x128 .bf16) (W : FVec Ideal S2x32x128x32768 .bf16) (b : Fin 48) (n : Fin 32768) :
    refOut X W (ix2 b n) = ∑ g : Fin 32, ∑ h : Fin 2, ∑ k : Fin 128,
      X (ix4 b 0 ⟨32 * h.val + g.val, by omega⟩ k) * W (ix4 h g k n) := by
  have key : refOut X W (ix2 b n) = ∑ q, shapeCast S48x1x2x32x128 X shapeCasts_S48x1x64x128_S48x1x2x32x128
      (dot_S48x1x2x32x128_S2x32x128x32768_S48x1x32768_324_102_01_3_n_n.lhsIdx (ix3 b 0 n) q) *
      W (dot_S48x1x2x32x128_S2x32x128x32768_S48x1x32768_324_102_01_3_n_n.rhsIdx (ix3 b 0 n) q) := by
    have e : refOut X W (ix2 b n) = Host.dotGeneral dot_S48x1x2x32x128_S2x32x128x32768_S48x1x32768_324_102_01_3_n_n none
        (shapeCast S48x1x2x32x128 X shapeCasts_S48x1x64x128_S48x1x2x32x128) W (ix3 b 0 n) := by
      pointwise [refOut]
    exact e.trans (Ideal.dotGeneral_apply _ _ _ _ _ _)
  rw [key, ← (Equiv.ofBijective contr3 contr3_bijective).sum_comp, Fintype.sum_prod_type]
  refine Finset.sum_congr rfl fun g _ => ?_
  rw [Fintype.sum_prod_type]
  refine Finset.sum_congr rfl fun h _ => Finset.sum_congr rfl fun k _ => ?_
  refine congrArg₂ (fun a b : EReal => a * b) ((congrArg (shapeCast S48x1x2x32x128 X shapeCasts_S48x1x64x128_S48x1x2x32x128) ?_).trans
    (split_apply X b h g k)) (congrArg W ?_)
  · funext a
    apply Fin.ext
    match a with
    | ⟨0, _⟩ => rfl
    | ⟨1, _⟩ => rfl
    | ⟨2, _⟩ => rfl
    | ⟨3, _⟩ => rfl
    | ⟨4, _⟩ => rfl
  · funext a
    apply Fin.ext
    match a with
    | ⟨0, _⟩ => rfl
    | ⟨1, _⟩ => rfl
    | ⟨2, _⟩ => rfl
    | ⟨3, _⟩ => rfl

end Cert.Proof

end
-- ==== Proof.Equation.lean ====
/-
  The kernel and the reference compute the same function of the three arguments, over the extended reals.

  The kernel sums over the 256 interleaved rows of each group, the reference over the halves and the channels of each
  half; the kernel scales a rotated activation after its sum, the reference scales every sign. The scale is a
  finite number that is not negative, so it may be taken out of any sum, and no assumption on the arguments is needed.
-/
module

public import proofs.«01_k».proof.Proof.Result
public import proofs.«01_k».proof.Proof.Reference
public import proofs.«01_k».proof.Defs

@[expose] public section

set_option maxRecDepth 16384

noncomputable section

namespace Cert.Proof

open Idealize.ShloMosaic Idealize.ShloMosaic.TcCoe Idealize.SL.Sem

/-- A sum over interleaved rows is the sum over the halves of the sums over the rows of each. -/
theorem sum_interleaved (f : Fin 256 → EReal) :
    ∑ r, f r = ∑ h : Fin 2, ∑ k : Fin 128, f ⟨2 * k.val + h.val, by omega⟩ := by
  rw [Finset.sum_comm, ← Fintype.sum_prod_type' (fun (k : Fin 128) (h : Fin 2) => f ⟨2 * k.val + h.val, by omega⟩),
    ← (finProdFinEquiv (m := 128) (n := 2)).sum_comp f]
  refine Finset.sum_congr rfl fun p _ => congrArg f (Fin.ext ?_)
  show p.2.val + 2 * p.1.val = 2 * p.1.val + p.2.val
  omega

/-- The reference's rotated activation is the kernel's. -/
theorem refRot_eq (V0 : Valuation Cert.ReferenceIdeal.τ Cert.ReferenceIdeal.sig (Elt Ideal))
    (x : Vec Ideal Cert.KernelIdeal.S48x1x8192 .bf16) (b : Fin 48) (h : Fin 2) (g : Fin 32) (k : Fin 128) :
    refRot V0 x (ix4 b 0 ⟨32 * h.val + g.val, by omega⟩ k) = rot (flat x) b h g k.val := by
  rw [refRot_apply]
  unfold rot
  rw [sum_mul_scl]
  refine Finset.sum_congr rfl fun j _ => ?_
  rw [← mul_assoc]
  refine congrArg (fun a : EReal => a * sgn j.val k.val * scl) (congrArg x ?_)
  funext a
  apply Fin.ext
  match a with
  | ⟨0, _⟩ => rfl
  | ⟨1, _⟩ => rfl
  | ⟨2, _⟩ => show (32 * h.val + g.val) * 128 + j.val = 4096 * h.val + 128 * g.val + j.val; omega

/-- The kernel's result is the reference's. -/
theorem wholeOut_eq (V0 : Valuation Cert.ReferenceIdeal.τ Cert.ReferenceIdeal.sig (Elt Ideal))
    (x : Vec Ideal Cert.KernelIdeal.S48x1x8192 .bf16) (w : Vec Ideal Cert.KernelIdeal.S4096x32768 .i8)
    (s : Vec Ideal Cert.KernelIdeal.S64x32768 .bf16) :
    wholeOut (rotated (flat x)) w s = refOut (refRot V0 x) (refW w s) := by
  funext i
  obtain ⟨b, n, rfl⟩ := exists_pair (m := 48) (n := 32768) i
  rw [refOut_apply]
  refine Finset.sum_congr rfl fun g _ => ?_
  rw [sum_interleaved]
  refine Finset.sum_congr rfl fun h _ => Finset.sum_congr rfl fun k _ => ?_
  rw [refRot_eq, refW_apply]
  have hh : half ⟨2 * k.val + h.val, by omega⟩ = h := Fin.ext (by show (2 * k.val + h.val) % 2 = h.val; omega)
  have h1 : (256 * g.val + (2 * k.val + h.val)) % 2 = h.val := by omega
  have h2 : (256 * g.val + (2 * k.val + h.val)) / 256 = g.val := by omega
  have h3 : (256 * g.val + (2 * k.val + h.val)) % 256 / 2 = k.val := by omega
  have hx : rotated (flat x) (ix2 b ⟨256 * g.val + (2 * k.val + h.val), by omega⟩) = rot (flat x) b h g k.val := by
    show rot (flat x) b ⟨(256 * g.val + (2 * k.val + h.val)) % 2, _⟩ ⟨(256 * g.val + (2 * k.val + h.val)) / 256, _⟩
      ((256 * g.val + (2 * k.val + h.val)) % 256 / 2) = _
    simp only [h1, h2, h3]
  have hw : (⟨128 * g.val + (2 * k.val + h.val) / 2, by omega⟩ : Fin 4096) = ⟨128 * g.val + k.val, by omega⟩ :=
    Fin.ext (by show 128 * g.val + (2 * k.val + h.val) / 2 = 128 * g.val + k.val; omega)
  have hs : (⟨32 * ((2 * k.val + h.val) % 2) + g.val, by omega⟩ : Fin 64) = ⟨32 * h.val + g.val, by omega⟩ :=
    Fin.ext (by show 32 * ((2 * k.val + h.val) % 2) + g.val = 32 * h.val + g.val; omega)
  show rotated (flat x) (ix2 b ⟨256 * g.val + (2 * k.val + h.val), _⟩) *
    ((((nibble (half ⟨2 * k.val + h.val, _⟩) (w (ix2 ⟨128 * g.val + (2 * k.val + h.val) / 2, _⟩ n)) : ℤ) : ℝ) : EReal) *
      s (ix2 ⟨32 * ((2 * k.val + h.val) % 2) + g.val, _⟩ n)) = _
  rw [hx, hh, hw, hs]

/-- Kernel and reference, over the extended reals and from the same arguments, end with equal results and unchanged
    arguments. -/
theorem algebraic : Cert.algebraic_KernelIdeal_ReferenceIdeal := by
  intro m g m' g' _ hag
  refine ⟨fun c => wholeOut (rotated (flat (m ((c.tc : Thread _ _).loc Cert.KernelIdeal.main_arg0))))
    (m ((c.tc : Thread _ _).loc Cert.KernelIdeal.main_arg1)) (m ((c.tc : Thread _ _).loc Cert.KernelIdeal.main_arg2)), ?_, ?_⟩
  · refine (θ_run Cert.KernelIdeal.defs _ _).mono (fun r h c => ?_) (Cert.KernelIdeal.Value.run_blocks (F := Ideal) m g)
    exact ⟨(h c).1.trans (final m c), (h c).2⟩
  · refine (θ_run Cert.ReferenceIdeal.defs _ _).mono (fun r h c => ?_) (Cert.ReferenceIdeal.Value.run (F := Ideal) m' g')
    refine ⟨(h c).1.trans ?_, (h c).2⟩
    have e : refOut (refRot (StableHlo.launchContents m' c) (m' ((c.tc : Thread _ _).loc Cert.ReferenceIdeal.main_arg0)))
        (refW (m' ((c.tc : Thread _ _).loc Cert.ReferenceIdeal.main_arg1)) (m' ((c.tc : Thread _ _).loc Cert.ReferenceIdeal.main_arg2))) =
      refOut (refRot (StableHlo.launchContents m' c) (m ((c.tc : Thread _ _).loc Cert.KernelIdeal.main_arg0)))
        (refW (m ((c.tc : Thread _ _).loc Cert.KernelIdeal.main_arg1)) (m ((c.tc : Thread _ _).loc Cert.KernelIdeal.main_arg2))) := by
      rw [(hag c).1, (hag c).2.1, (hag c).2.2]
    exact e.trans (wholeOut_eq (StableHlo.launchContents m' c) _ _ _).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Claims
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    frame_kernel, frame_kernel_ideal, frame_reference, preserves, algebraic⟩

end Cert.Proof

end
